-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_vocabulary_and_finite [hPre_in_vocabulary_and_finite : Cert.Pre_in_vocabulary_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_in_vocabulary_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_in_vocabulary_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocabulary_and_finite [hPre_in_vocabulary_and_finite : Cert.Pre_in_vocabulary_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_in_vocabulary_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_in_vocabulary_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_vocabulary_and_finite [hKernelIdeal : Cert.KernelIdeal.Facts] [hPre_in_vocabulary_and_finite : Cert.Pre_in_vocabulary_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_vocabulary_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_vocabulary_and_finite [hReferenceIdeal : Cert.ReferenceIdeal.Facts] [hPre_in_vocabulary_and_finite : Cert.Pre_in_vocabulary_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocabulary_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_in_vocabulary_and_finite [hKernelIdeal : Cert.KernelIdeal.Facts] [hReferenceIdeal : Cert.ReferenceIdeal.Facts] [hPre_in_vocabulary_and_finite : Cert.Pre_in_vocabulary_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_vocabulary_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_vocabulary_and_finite : Cert.Pre_in_vocabulary_and_finite.Facts),
    quiescent_Kernel (hKernel := hKernel)
    ∧ quiescent_KernelIdeal (hKernelIdeal := hKernelIdeal)
    ∧ quiescent_KernelIdeal_pre_in_vocabulary_and_finite (hKernelIdeal := hKernelIdeal) (hPre_in_vocabulary_and_finite := hPre_in_vocabulary_and_finite)
    ∧ quiescent_ReferenceIdeal (hReferenceIdeal := hReferenceIdeal)
    ∧ quiescent_ReferenceIdeal_pre_in_vocabulary_and_finite (hReferenceIdeal := hReferenceIdeal) (hPre_in_vocabulary_and_finite := hPre_in_vocabulary_and_finite)
    ∧ preserves_Kernel_KernelIdeal
    ∧ algebraic_KernelIdeal_ReferenceIdeal_pre_in_vocabulary_and_finite (hKernelIdeal := hKernelIdeal) (hReferenceIdeal := hReferenceIdeal) (hPre_in_vocabulary_and_finite := hPre_in_vocabulary_and_finite)
-- ==== Pre_in_vocabulary_and_finite.lean ====
abbrev S1024x26x20 : Shape := ⟨3, ![1024, 26, 20]⟩
abbrev S18x128 : Shape := ⟨2, ![18, 128]⟩
abbrev S20x128 : Shape := ⟨2, ![20, 128]⟩
abbrev S128x128 : Shape := ⟨2, ![128, 128]⟩
abbrev S128 : Shape := ⟨1, ![128]⟩
abbrev S_ : Shape := ⟨0, ![]⟩

class Facts : Prop where
  bcast_S_S1024x26x20 : S_.BroadcastsInDim S1024x26x20 (![] : Fin 0 → Fin S1024x26x20.rank)
  bcast_S_S20x128 : S_.BroadcastsInDim S20x128 (![] : Fin 0 → Fin S20x128.rank)
  bcast_S_S128x128 : S_.BroadcastsInDim S128x128 (![] : Fin 0 → Fin S128x128.rank)

variable [Facts]

def fn {F : FTy → Type} [FloatOps F] (main_arg0 : IVec S1024x26x20 32) (main_arg1 : IVec S1024x26x20 1) (main_arg2 : FVec F S18x128 .f32) (main_arg3 : FVec F S20x128 .f32) (main_arg4 : FVec F S128x128 .f32) (main_arg5 : FVec F S128 .f32) : IVec S1024x26x20 1 × IVec S20x128 1 × IVec S128x128 1 :=
  let main_c : IVec S_ 32 := constantI S_ 32 0#32
  let main_v0 : IVec S1024x26x20 32 := broadcastInDim S1024x26x20 ![] bcast_S_S1024x26x20 main_c
  let main_v1 : IVec S1024x26x20 1 := cmpi .sge main_arg0 main_v0
  let main_c_0 : IVec S_ 32 := constantI S_ 32 18#32
  let main_v2 : IVec S1024x26x20 32 := broadcastInDim S1024x26x20 ![] bcast_S_S1024x26x20 main_c_0
  let main_v3 : IVec S1024x26x20 1 := cmpi .slt main_arg0 main_v2
  let main_v4 : IVec S1024x26x20 1 := andi main_v1 main_v3
  let main_v5 : FVec F S20x128 .f32 := Host.absf main_arg3
  let main_cst : FVec F S_ .f32 := constant S_ .f32 0x7F800000#32
  let main_v6 : FVec F S20x128 .f32 := broadcastInDim S20x128 ![] bcast_S_S20x128 main_cst
  let main_v7 : IVec S20x128 1 := cmpf .olt main_v5 main_v6
  let main_v8 : FVec F S128x128 .f32 := Host.absf main_arg4
  let main_cst_1 : FVec F S_ .f32 := constant S_ .f32 0x7F800000#32
  let main_v9 : FVec F S128x128 .f32 := broadcastInDim S128x128 ![] bcast_S_S128x128 main_cst_1
  let main_v10 : IVec S128x128 1 := cmpf .olt main_v8 main_v9
  (main_v4, main_v7, main_v10)
-- ==== Kernel.lean ====
abbrev S1024x26x20 : Shape := ⟨3, ![1024, 26, 20]⟩
abbrev S18x128 : Shape := ⟨2, ![18, 128]⟩
abbrev S20x128 : Shape := ⟨2, ![20, 128]⟩
abbrev S128x128 : Shape := ⟨2, ![128, 128]⟩
abbrev S128 : Shape := ⟨1, ![128]⟩
abbrev S20x1024x26 : Shape := ⟨3, ![20, 1024, 26]⟩
abbrev S20x26624 : Shape := ⟨2, ![20, 26624]⟩
abbrev S1x128 : Shape := ⟨2, ![1, 128]⟩
abbrev S1024x26x128 : Shape := ⟨3, ![1024, 26, 128]⟩
abbrev S20x3328 : Shape := ⟨2, ![20, 3328]⟩
abbrev S128x26x128 : Shape := ⟨3, ![128, 26, 128]⟩
abbrev S3328 : Shape := ⟨1, ![3328]⟩
abbrev S1x3328 : Shape := ⟨2, ![1, 3328]⟩
abbrev S18x3328 : Shape := ⟨2, ![18, 3328]⟩
abbrev S3328x128 : Shape := ⟨2, ![3328, 128]⟩

abbrev nBuf : Space → Nat
  | .hbm => 14
  | .vmem => 10
  | .smem => 0
  | _ => 0

abbrev bufTy : (tb : Table) → Fin (tcTables nBuf tb) → BufTy
  | .hbm, ⟨0, _⟩ => ⟨S1024x26x20, .i32⟩
  | .hbm, ⟨1, _⟩ => ⟨S1024x26x20, .i1⟩
  | .hbm, ⟨2, _⟩ => ⟨S18x128, .f32⟩
  | .hbm, ⟨3, _⟩ => ⟨S20x128, .f32⟩
  | .hbm, ⟨4, _⟩ => ⟨S128x128, .f32⟩
  | .hbm, ⟨5, _⟩ => ⟨S128, .f32⟩
  | .hbm, ⟨6, _⟩ => ⟨S20x1024x26, .i32⟩
  | .hbm, ⟨7, _⟩ => ⟨S20x26624, .i32⟩
  | .hbm, ⟨8, _⟩ => ⟨S20x1024x26, .i1⟩
  | .hbm, ⟨9, _⟩ => ⟨S20x26624, .i1⟩
  | .hbm, ⟨10, _⟩ => ⟨S128x128, .f32⟩
  | .hbm, ⟨11, _⟩ => ⟨S1x128, .f32⟩
  | .hbm, ⟨12, _⟩ => ⟨S20x26624, .i32⟩
  | .hbm, ⟨13, _⟩ => ⟨S1024x26x128, .f32⟩
  | .local _ .vmem, ⟨0, _⟩ => ⟨S20x3328, .i32⟩
  | .local _ .vmem, ⟨1, _⟩ => ⟨S20x3328, .i32⟩
  | .local _ .vmem, ⟨2, _⟩ => ⟨S20x3328, .i32⟩
  | .local _ .vmem, ⟨3, _⟩ => ⟨S20x3328, .i32⟩
  | .local _ .vmem, ⟨4, _⟩ => ⟨S18x128, .f32⟩
  | .local _ .vmem, ⟨5, _⟩ => ⟨S20x128, .f32⟩
  | .local _ .vmem, ⟨6, _⟩ => ⟨S128x128, .f32⟩
  | .local _ .vmem, ⟨7, _⟩ => ⟨S1x128, .f32⟩
  | .local _ .vmem, ⟨8, _⟩ => ⟨S128x26x128, .f32⟩
  | .local _ .vmem, ⟨9, _⟩ => ⟨S128x26x128, .f32⟩
  | _, _ => ⟨S1024x26x20, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S20x3328 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20x3328 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S18x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S20x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x26x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1024x26x20 : Shape := ⟨3, ![1024, 26, 20]⟩
abbrev S18x128 : Shape := ⟨2, ![18, 128]⟩
abbrev S20x128 : Shape := ⟨2, ![20, 128]⟩
abbrev S128x128 : Shape := ⟨2, ![128, 128]⟩
abbrev S128 : Shape := ⟨1, ![128]⟩
abbrev S_ : Shape := ⟨0, ![]⟩
abbrev S1024x26x20x1 : Shape := ⟨4, ![1024, 26, 20, 1]⟩
abbrev S1 : Shape := ⟨1, ![1]⟩
abbrev S1x1x1x1 : Shape := ⟨4, ![1, 1, 1, 1]⟩
abbrev S1024x26x20x128 : Shape := ⟨4, ![1024, 26, 20, 128]⟩
abbrev S20 : Shape := ⟨1, ![20]⟩
abbrev S20x1 : Shape := ⟨2, ![20, 1]⟩
abbrev S1x1 : Shape := ⟨2, ![1, 1]⟩
abbrev S1x1x1x128 : Shape := ⟨4, ![1, 1, 1, 128]⟩
abbrev S1024x26x128 : Shape := ⟨3, ![1024, 26, 128]⟩

abbrev nBuf : Space → Nat
  | .hbm => 70
  | .vmem => 0
  | .smem => 0
  | _ => 0

abbrev bufTy : (tb : Table) → Fin (tcTables nBuf tb) → BufTy
  | .hbm, ⟨0, _⟩ => ⟨S1024x26x20, .i32⟩
  | .hbm, ⟨1, _⟩ => ⟨S1024x26x20, .i1⟩
  | .hbm, ⟨2, _⟩ => ⟨S18x128, .f32⟩
  | .hbm, ⟨3, _⟩ => ⟨S20x128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S1024x26x20, .i32⟩
  | .hbm, ⟨8, _⟩ => ⟨S1024x26x20, .i1⟩
  | .hbm, ⟨9, _⟩ => ⟨S_, .i32⟩
  | .hbm, ⟨10, _⟩ => ⟨S1024x26x20, .i32⟩
  | .hbm, ⟨11, _⟩ => ⟨S1024x26x20, .i32⟩
  | .hbm, ⟨12, _⟩ => ⟨S1024x26x20, .i32⟩
  | .hbm, ⟨13, _⟩ => ⟨S1024x26x20x1, .i32⟩
  | .hbm, ⟨14, _⟩ => ⟨S1, .i32⟩
  | .hbm, ⟨15, _⟩ => ⟨S_, .i32⟩
  | .hbm, ⟨16, _⟩ => ⟨S1024x26x20x1, .i32⟩
  | .hbm, ⟨17, _⟩ => ⟨S1024x26x20x1, .i1⟩
  | .hbm, ⟨18, _⟩ => ⟨S1x1x1x1, .i32⟩
  | .hbm, ⟨19, _⟩ => ⟨S1024x26x20x1, .i32⟩
  | .hbm, ⟨20, _⟩ => ⟨S1024x26x20x1, .i1⟩
  | .hbm, ⟨21, _⟩ => ⟨S1024x26x20x1, .i1⟩
  | .hbm, ⟨22, _⟩ => ⟨S_, .i1⟩
  | .hbm, ⟨23, _⟩ => ⟨S1024x26x20, .i1⟩
  | .hbm, ⟨24, _⟩ => ⟨S1024x26x20x128, .f32⟩
  | .hbm, ⟨25, _⟩ => ⟨S1024x26x20x128, .i1⟩
  | .hbm, ⟨26, _⟩ => ⟨S_, .f32⟩
  | .hbm, ⟨27, _⟩ => ⟨S1024x26x20x128, .f32⟩
  | .hbm, ⟨28, _⟩ => ⟨S1024x26x20x128, .f32⟩
  | .hbm, ⟨29, _⟩ => ⟨S20, .i32⟩
  | .hbm, ⟨30, _⟩ => ⟨S_, .i32⟩
  | .hbm, ⟨31, _⟩ => ⟨S20, .i32⟩
  | .hbm, ⟨32, _⟩ => ⟨S20, .i1⟩
  | .hbm, ⟨33, _⟩ => ⟨S_, .i32⟩
  | .hbm, ⟨34, _⟩ => ⟨S20, .i32⟩
  | .hbm, ⟨35, _⟩ => ⟨S20, .i32⟩
  | .hbm, ⟨36, _⟩ => ⟨S20, .i32⟩
  | .hbm, ⟨37, _⟩ => ⟨S20x1, .i32⟩
  | .hbm, ⟨38, _⟩ => ⟨S1, .i32⟩
  | .hbm, ⟨39, _⟩ => ⟨S_, .i32⟩
  | .hbm, ⟨40, _⟩ => ⟨S20x1, .i32⟩
  | .hbm, ⟨41, _⟩ => ⟨S20x1, .i1⟩
  | .hbm, ⟨42, _⟩ => ⟨S1x1, .i32⟩
  | .hbm, ⟨43, _⟩ => ⟨S20x1, .i32⟩
  | .hbm, ⟨44, _⟩ => ⟨S20x1, .i1⟩
  | .hbm, ⟨45, _⟩ => ⟨S20x1, .i1⟩
  | .hbm, ⟨46, _⟩ => ⟨S_, .i1⟩
  | .hbm, ⟨47, _⟩ => ⟨S20, .i1⟩
  | .hbm, ⟨48, _⟩ => ⟨S20x128, .f32⟩
  | .hbm, ⟨49, _⟩ => ⟨S20x128, .i1⟩
  | .hbm, ⟨50, _⟩ => ⟨S_, .f32⟩
  | .hbm, ⟨51, _⟩ => ⟨S20x128, .f32⟩
  | .hbm, ⟨52, _⟩ => ⟨S20x128, .f32⟩
  | .hbm, ⟨53, _⟩ => ⟨S1024x26x20x128, .f32⟩
  | .hbm, ⟨54, _⟩ => ⟨S1024x26x20x128, .f32⟩
  | .hbm, ⟨55, _⟩ => ⟨S128x128, .f32⟩
  | .hbm, ⟨56, _⟩ => ⟨S1024x26x20x128, .f32⟩
  | .hbm, ⟨57, _⟩ => ⟨S1x1x1x128, .f32⟩
  | .hbm, ⟨58, _⟩ => ⟨S1024x26x20x128, .f32⟩
  | .hbm, ⟨59, _⟩ => ⟨S1024x26x20x128, .f32⟩
  | .hbm, ⟨60, _⟩ => ⟨S1024x26x20, .i32⟩
  | .hbm, ⟨61, _⟩ => ⟨S_, .i32⟩
  | .hbm, ⟨62, _⟩ => ⟨S1024x26x20, .i32⟩
  | .hbm, ⟨63, _⟩ => ⟨S1024x26x20, .i32⟩
  | .hbm, ⟨64, _⟩ => ⟨S1024x26x20x1, .i32⟩
  | .hbm, ⟨65, _⟩ => ⟨S1024x26x20x128, .i32⟩
  | .hbm, ⟨66, _⟩ => ⟨S1024x26x20x128, .f32⟩
  | .hbm, ⟨67, _⟩ => ⟨S1024x26x20x128, .f32⟩
  | .hbm, ⟨68, _⟩ => ⟨S_, .f32⟩
  | .hbm, ⟨69, _⟩ => ⟨S1024x26x128, .f32⟩
  | _, _ => ⟨S1024x26x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_c : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_cst : Ref sig .tc := ⟨.hbm, 68, rfl⟩
abbrev main_v17 : Ref sig .tc := ⟨.hbm, 69, rfl⟩

abbrev nD : Nat := 1
abbrev τ : Topo := Topo.v7x

variable {F : FTy → Type} [FloatOps F]
-- ==== Proof.Block.lean ====
/-
  What one block of the kernel computes: the block the body stores, read at an index, from the six blocks it loads.
-/
module

public import proofs.«01_k».proof.Proof.Gen.KernelIdeal.Frame
public import Idealize.ShloMosaic.Lib.Pointwise
public import Idealize.ShloMosaic.Lib.Pipeline.Value

@[expose] public section

set_option maxRecDepth 16384

noncomputable section

namespace Cert.KernelIdeal.Block

open Cert.KernelIdeal Cert.KernelIdeal.Gen Idealize.ShloMosaic

/-- The keep factor of a mask word: one minus its 0/1 value as the kernel converts it. -/
def keep (w : BitVec 32) : EReal := if w = 0#32 then 1 else 0

/-- The kernel's keep array at an index. -/
theorem keep_apply (x1 : Vec Ideal S20x3328 .i32) (t : Fin 20) (n : Fin 3328) :
    k0_pay6 (F := Ideal) x1 (ix2 t n) = keep (x1 (ix2 t n)) := by
  pointwise [k0_pay6, keep]
  by_cases h : x1 (ix2 t n) = 0#32
  · have hc : IntOp.cmpi CmpIPredicate.ne (x1 (ix2 t n)) 0#32 = 0#1 := by rw [h]; rfl
    rw [hc, if_pos h]
    simp [FloatOps.sitofp]
  · have hc : IntOp.cmpi CmpIPredicate.ne (x1 (ix2 t n)) 0#32 = 1#1 := by
      simp [IntOp.cmpi, bne, beq_eq_false_iff_ne.mpr h]
    rw [hc, if_neg h]
    simp only [FloatOps.sitofp]
    norm_num
    rw [← EReal.coe_one, ← EReal.coe_sub, sub_self, EReal.coe_zero]

/-- The row of counts of vocabulary entry `v` in a block: over the 20 positions, the keep factors of those holding `v`. -/
def row (x0 : IVec S20x3328 32) (k : FVec Ideal S20x3328 .f32) (v : BitVec 32) : FVec Ideal S1x3328 .f32 :=
  shapeCast S1x3328 (multiReduction .add [0] S3328
    (select (cmpi .eq x0 (broadcast S20x3328 v)) k (broadcast S20x3328 (Scalar.ofBits .f32 0x00000000#32)))
    0x00000000#32 reduces_S20x3328_S3328 (.inl rfl) rfl) shapeCasts_S3328_S1x3328

theorem row_apply (x0 : IVec S20x3328 32) (k : FVec Ideal S20x3328 .f32) (v : BitVec 32) (z : Fin 1) (n : Fin 3328) :
    row x0 k v (ix2 z n) = ∑ t : Fin 20, if x0 (ix2 t n) = v then k (ix2 t n) else (0 : EReal) := by
  pointwise [row]
  refine Finset.sum_congr rfl fun t _ => ?_
  by_cases h : x0 (ix2 t n) = v
  · simp [Scalar.select, IntOp.cmpi, h]
  · simp [Scalar.select, IntOp.cmpi, h, beq_eq_false_iff_ne.mpr h]

/-- Eighteen rows stacked, read at row `v`: row `v` of the stack is the `v`-th row. -/
theorem stack_apply {α : Type} (f : Fin 18 → S1x3328.Idx → α)
    (h : Shape.Concatenates ((List.ofFn fun v : Fin 18 => (⟨S1x3328, f v⟩ : (s : Shape) × (s.Idx → α))).map (·.1)) S18x3328 0)
    (v : Fin 18) (n : Fin 3328) :
    concatenate S18x3328 0 (List.ofFn fun v : Fin 18 => (⟨S1x3328, f v⟩ : (s : Shape) × (s.Idx → α))) h (ix2 v n)
      = f v (ix2 0 n) := by
  refine concatenate_ofFn_unit_apply (t := S18x3328) 0 f h rfl rfl (ix2 v n) v rfl (ix2 0 n) fun b hb => ?_
  match b with
  | ⟨0, _⟩ => exact absurd rfl hb
  | ⟨1, _⟩ => rfl

/-- The block of counts: the 18 rows of counts, one per vocabulary entry, stacked. -/
def counts (x0 : IVec S20x3328 32) (k : FVec Ideal S20x3328 .f32) : FVec Ideal S18x3328 .f32 :=
  concatenate S18x3328 0 (List.ofFn fun v : Fin 18 => ⟨S1x3328, row x0 k (BitVec.ofNat 32 v)⟩)
    concatenates_S1x3328_S1x3328_S1x3328_S1x3328_S1x3328_S1x3328_S1x3328_S1x3328_S1x3328_S1x3328_S1x3328_S1x3328_S1x3328_S1x3328_S1x3328_S1x3328_S1x3328_S1x3328_S18x3328_d0

theorem counts_apply (x0 : IVec S20x3328 32) (k : FVec Ideal S20x3328 .f32) (v : Fin 18) (n : Fin 3328) :
    counts x0 k (ix2 v n) = ∑ t : Fin 20, if x0 (ix2 t n) = BitVec.ofNat 32 v then k (ix2 t n) else (0 : EReal) :=
  (stack_apply (fun v => row x0 k (BitVec.ofNat 32 v)) _ v n).trans (row_apply x0 k (BitVec.ofNat 32 v) 0 n)

/-- The body's stack of rows is the block of counts. -/
theorem counts_eq (f : IVec S20x3328 32) (k : FVec Ideal S20x3328 .f32) :
    concatenate S18x3328 0 [⟨S1x3328, row f k 0#32⟩, ⟨S1x3328, row f k 1#32⟩, ⟨S1x3328, row f k 2#32⟩,
        ⟨S1x3328, row f k 3#32⟩, ⟨S1x3328, row f k 4#32⟩, ⟨S1x3328, row f k 5#32⟩, ⟨S1x3328, row f k 6#32⟩,
        ⟨S1x3328, row f k 7#32⟩, ⟨S1x3328, row f k 8#32⟩, ⟨S1x3328, row f k 9#32⟩, ⟨S1x3328, row f k 10#32⟩,
        ⟨S1x3328, row f k 11#32⟩, ⟨S1x3328, row f k 12#32⟩, ⟨S1x3328, row f k 13#32⟩, ⟨S1x3328, row f k 14#32⟩,
        ⟨S1x3328, row f k 15#32⟩, ⟨S1x3328, row f k 16#32⟩, ⟨S1x3328, row f k 17#32⟩]
        concatenates_S1x3328_S1x3328_S1x3328_S1x3328_S1x3328_S1x3328_S1x3328_S1x3328_S1x3328_S1x3328_S1x3328_S1x3328_S1x3328_S1x3328_S1x3328_S1x3328_S1x3328_S1x3328_S18x3328_d0
      = counts f k := rfl

/-- The block the body stores, at batch row `b`, slot `s` and column `e` of the block. -/
theorem out_apply (x0 x1 : Vec Ideal S20x3328 .i32) (x2 : Vec Ideal S18x128 .f32) (x3 : Vec Ideal S20x128 .f32)
    (x4 : Vec Ideal S128x128 .f32) (x5 : Vec Ideal S1x128 .f32) (b : Fin 128) (s : Fin 26) (e : Fin 128)
    (n : Fin 3328) (hn : (n : Nat) = b.val * 26 + s.val) :
    out0_6 (F := Ideal) x0 x1 x2 x3 x4 x5 (ix3 b s e)
      = (∑ v : Fin 18, (∑ t : Fin 20, if x0 (ix2 t n) = BitVec.ofNat 32 v then keep (x1 (ix2 t n)) else (0 : EReal))
            * (∑ d : Fin 128, (x2 (ix2 v d) : EReal) * x4 (ix2 d e)))
        + ∑ t : Fin 20, keep (x1 (ix2 t n)) * ((∑ d : Fin 128, (x3 (ix2 t d) : EReal) * x4 (ix2 d e)) + x5 (ix2 0 e)) := by
  have hz2 : (![0, 0] : Fin 2 → Nat) = fun _ => 0 := funext fun a => by fin_cases a <;> rfl
  have hz3 : (![0, 0, 0] : Fin 3 → Nat) = fun _ => 0 := funext fun a => by fin_cases a <;> rfl
  have h5 : k0_pay5 (F := Ideal) x0 = x0 := by funext i; idx_vars i; pointwise [k0_pay5]
  have hc : out0_6 (F := Ideal) x0 x1 x2 x3 x4 x5
      = k0_pay4 (k0_pay6 x1) (k0_pay7 x2 x4) (k0_pay8 x3 x4 x5) (counts (k0_pay5 x0) (k0_pay6 x1)) := by
    unfold_out out0_6
    rw [View.canon_unit_zero (S := S128x26x128) hz3]
    unfold r0_0 r0_1 r0_2 r0_3 r0_4
    rw [View.ld_unit_zero (S := S20x3328) hz2, View.ld_unit_zero (S := S20x3328) hz2, View.ld_unit_zero (S := S18x128) hz2,
      View.ld_unit_zero (S := S20x128) hz2, View.ld_unit_zero (S := S128x128) hz2, View.ld_unit_zero (S := S1x128) hz2, ← counts_eq]
    rfl
  rw [hc, h5]
  pointwise [k0_pay4]
  have hb := b.isLt
  have hs := s.isLt
  have hrow : (⟨b.val * 26 + s.val, by omega⟩ : Fin 3328) = n := Fin.ext hn.symm
  simp only [hrow, counts_apply, keep_apply]
  have h7 : ∀ v : Fin 18, k0_pay7 (F := Ideal) x2 x4 (ix2 v e) = ∑ d : Fin 128, (x2 (ix2 v d) : EReal) * x4 (ix2 d e) := by
    intro v; pointwise [k0_pay7]
  have h8 : ∀ t : Fin 20, k0_pay8 (F := Ideal) x3 x4 x5 (ix2 t e)
      = (∑ d : Fin 128, (x3 (ix2 t d) : EReal) * x4 (ix2 d e)) + x5 (ix2 0 e) := by
    intro t; pointwise [k0_pay8]
  simp only [h7, h8]

end Cert.KernelIdeal.Block

end
-- ==== Proof.KernelArray.lean ====
/-
  What the kernel's result array holds after the run, index by index, as one function of the argument arrays.
-/
module

public import proofs.«01_k».proof.Proof.Block
public import proofs.«01_k».proof.Proof.Gen.KernelIdeal.Value
public import Idealize.ShloMosaic.Lib.Claim
public import Idealize.ShloMosaic.Lib.Pipeline.ValueKit

@[expose] public section

set_option maxRecDepth 16384

noncomputable section

namespace Cert.KernelIdeal.Block

open Cert.KernelIdeal Cert.KernelIdeal.Gen Idealize.ShloMosaic Idealize.ShloMosaic.TcCoe Idealize.SL.Sem

/-- The keep factor of a mask bit: one where the bit is clear, zero where it is set. -/
def kept (w : BitVec 1) : EReal := if w = 0#1 then 1 else 0

/-- The keep factor of a mask bit widened to a word is the bit's. -/
theorem keep_extui (w : BitVec 1) : keep (w.setWidth 32) = kept w := by
  rcases BitVec.eq_zero_or_eq_one w with rfl | rfl <;> rfl

/-- The kernel's result at batch row `b`, slot `s`, column `e`: the kept counts of the 18 vocabulary entries times their
    products with the weights, plus the kept positions' products with the weights and the bias. -/
def pooled (f : Vec Ideal S1024x26x20 .i32) (k : Vec Ideal S1024x26x20 .i1) (T : Vec Ideal S18x128 .f32)
    (P : Vec Ideal S20x128 .f32) (W : Vec Ideal S128x128 .f32) (β : Vec Ideal S128 .f32)
    (b : Fin 1024) (s : Fin 26) (e : Fin 128) : EReal :=
  (∑ v : Fin 18, (∑ t : Fin 20, if f (ix3 b s t) = BitVec.ofNat 32 v then kept (k (ix3 b s t)) else (0 : EReal))
        * (∑ d : Fin 128, (T (ix2 v d) : EReal) * W (ix2 e d)))
    + ∑ t : Fin 20, kept (k (ix3 b s t)) * ((∑ d : Fin 128, (P (ix2 t d) : EReal) * W (ix2 e d)) + β (ix1 e))

variable (m : (ℓ : Loc nD τ sig) → Buf (Elt Ideal) ℓ) (ρ : Dev nD → PrngReg)

/-- Block indices: the two plans move along columns with the point, the result along batch rows; the tables stay. -/
theorem idx : ∀ t : Fin cfg0.N, win0_0.index t = ![0, t.val] ∧ win0_1.index t = ![0, t.val] ∧ win0_2.index t = ![0, 0]
    ∧ win0_3.index t = ![0, 0] ∧ win0_4.index t = ![0, 0] ∧ win0_5.index t = ![0, 0] ∧ win0_6.index t = ![t.val, 0, 0] :=
  (by decide +kernel : ∀ t : Fin grid0.N, _)

/-- The flattened plan, position `p` of row `r`: the array's position `p` of batch row `b` and slot `s`. -/
theorem flat_apply {α : Type} (x : S1024x26x20.Idx → α) (p : Fin 20) (r : Fin 26624) (b : Fin 1024) (s : Fin 26)
    (h : r.val = b.val * 26 + s.val) :
    shapeCast S20x26624 (transpose S20x1024x26 [2, 0, 1] x transposes_S1024x26x20_S20x1024x26_2_0_1)
      shapeCasts_S20x1024x26_S20x26624 (ix2 p r) = x (ix3 b s p) := by
  have hs := s.isLt
  pointwise
  congr 1
  blk_ext

/-- The token block at point `t`: position `p` of block row `r`. -/
theorem tok_apply (c : Dev nD) (t : Fin cfg0.N) (p : Fin 20) (r : Fin 3328) (b : Fin 1024) (s : Fin 26)
    (h : t.val * 3328 + r.val = b.val * 26 + s.val) :
    iblk m c 0 t (ix2 p r) = m ((c : Thread nD τ).loc main_arg0) (ix3 b s p) := by
  obtain ⟨h0, -⟩ := idx t
  have hb := b.isLt
  have hs := s.isLt
  refine Eq.trans ?_ (flat_apply (m ((c : Thread nD τ).loc main_arg0)) p ⟨t.val * 3328 + r.val, by omega⟩ b s h)
  unfold iblk
  entry_read
  refine congrArg (shapeCast S20x26624 (transpose S20x1024x26 [2, 0, 1] (m ((c : Thread nD τ).loc main_arg0)) transposes_S1024x26x20_S20x1024x26_2_0_1)
      shapeCasts_S20x1024x26_S20x26624) (?_ : ((cfg0.win 0).blk t).view.emb (ix2 p r) = _)
  blk_ext [h0]

/-- The mask block at point `t`: position `p` of block row `r`, widened to a word. -/
theorem mask_apply (c : Dev nD) (t : Fin cfg0.N) (p : Fin 20) (r : Fin 3328) (b : Fin 1024) (s : Fin 26)
    (h : t.val * 3328 + r.val = b.val * 26 + s.val) :
    iblk m c 1 t (ix2 p r) = (m ((c : Thread nD τ).loc main_arg1) (ix3 b s p)).setWidth 32 := by
  obtain ⟨-, h1, -⟩ := idx t
  have hb := b.isLt
  have hs := s.isLt
  refine Eq.trans ?_ (congrArg (BitVec.setWidth 32)
    (flat_apply (m ((c : Thread nD τ).loc main_arg1)) p ⟨t.val * 3328 + r.val, by omega⟩ b s h))
  unfold iblk
  entry_read
  refine congrArg (extui 32 (shapeCast S20x26624 (transpose S20x1024x26 [2, 0, 1] (m ((c : Thread nD τ).loc main_arg1)) transposes_S1024x26x20_S20x1024x26_2_0_1)
      shapeCasts_S20x1024x26_S20x26624) natLt_1_32) (?_ : ((cfg0.win 1).blk t).view.emb (ix2 p r) = _)
  blk_ext [h1]

/-- The vocabulary's block is its table. -/
theorem vocab_apply (c : Dev nD) (t : Fin cfg0.N) (v : Fin 18) (d : Fin 128) :
    iblk m c 2 t (ix2 v d) = m ((c : Thread nD τ).loc main_arg2) (ix2 v d) := by
  obtain ⟨-, -, h2, -⟩ := idx t
  unfold iblk
  entry_read
  blk_ext [h2]

/-- The positions' block is their table. -/
theorem pos_apply (c : Dev nD) (t : Fin cfg0.N) (p : Fin 20) (d : Fin 128) :
    iblk m c 3 t (ix2 p d) = m ((c : Thread nD τ).loc main_arg3) (ix2 p d) := by
  obtain ⟨-, -, -, h3, -⟩ := idx t
  unfold iblk
  entry_read
  blk_ext [h3]

/-- The weights' block is their transpose. -/
theorem weight_apply (c : Dev nD) (t : Fin cfg0.N) (d e : Fin 128) :
    iblk m c 4 t (ix2 d e) = m ((c : Thread nD τ).loc main_arg4) (ix2 e d) := by
  obtain ⟨-, -, -, -, h4, -⟩ := idx t
  unfold iblk
  entry_read
  have hi : ((cfg0.win 4).blk t).view.emb (ix2 d e) = ix2 d e := by blk_ext [h4]
  refine (congrArg (transpose S128x128 [1, 0] (m ((c : Thread nD τ).loc main_arg4)) transposes_S128x128_S128x128_1_0) hi).trans ?_
  pointwise

/-- The bias' block is the bias as one row. -/
theorem bias_apply (c : Dev nD) (t : Fin cfg0.N) (e : Fin 128) :
    iblk m c 5 t (ix2 0 e) = m ((c : Thread nD τ).loc main_arg5) (ix1 e) := by
  obtain ⟨-, -, -, -, -, h5, -⟩ := idx t
  unfold iblk
  entry_read
  have hi : ((cfg0.win 5).blk t).view.emb (ix2 0 e) = ix2 0 e := by blk_ext [h5]
  refine (congrArg (shapeCast S1x128 (m ((c : Thread nD τ).loc main_arg5)) shapeCasts_S128_S1x128) hi).trans ?_
  pointwise

/-- The result array after the run. -/
theorem final (c : Dev nD) : (dats m 0 c).arrAt 6 cfg0.N = fun i : S1024x26x128.Idx =>
    pooled (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (i 0) (i 1) (i 2) := by
  refine (dats m 0 c).arrAt_eq_of_covers 6 _ (by decide +kernel) fun t hf y => ?_
  blk_simp
  rw [after0_6]
  idx_vars y
  obtain ⟨-, -, -, -, -, -, h6⟩ := idx t
  have ht : t.val < 8 := t.isLt
  have hb := y0.isLt
  have hs := y1.isLt
  have hi : ((View.whole main_v7).slice (win0_6.rect t)).emb (ix3 y0 y1 y2)
      = ix3 (⟨t.val * 128 + y0.val, by omega⟩ : Fin 1024) y1 y2 := by blk_ext [h6]
  rw [hi, out_apply _ _ _ _ _ _ y0 y1 y2 ⟨y0.val * 26 + y1.val, by omega⟩ rfl]
  have hr : t.val * 3328 + (y0.val * 26 + y1.val) = (t.val * 128 + y0.val) * 26 + y1.val := by omega
  simp only [tok_apply m c t _ ⟨y0.val * 26 + y1.val, by omega⟩ ⟨t.val * 128 + y0.val, by omega⟩ y1 hr,
    mask_apply m c t _ ⟨y0.val * 26 + y1.val, by omega⟩ ⟨t.val * 128 + y0.val, by omega⟩ y1 hr,
    vocab_apply, pos_apply, weight_apply, bias_apply, keep_extui]
  rfl

end Cert.KernelIdeal.Block

end
-- ==== Proof.Precondition.lean ====
/-
  What the precondition says of the arguments: every token is one of the vocabulary's 18 entries, and the position table and
  the weights are finite.
-/
module

public import proofs.«01_k».proof.Pre_in_vocabulary_and_finite
public import Idealize.ShloMosaic.Lib.Pointwise
public import Idealize.ShloMosaic.Lib.Tactic.WordOmega

@[expose] public section

noncomputable section

namespace Cert.Pre_in_vocabulary_and_finite

open Idealize.ShloMosaic

/-- The side conditions the precondition's operations take. -/
theorem facts : Facts := ⟨by decide, by decide, by decide⟩

/-- A word from 0 up to 17 is a vocabulary entry. -/
theorem entry_of_range (w : BitVec 32) (h : IntOp.andi (IntOp.cmpi .sge w 0#32) (IntOp.cmpi .slt w 18#32) = 1#1) :
    ∃ v : Fin 18, w = BitVec.ofNat 32 v := by
  have hw : w.toNat < 18 := by word_omega
  exact ⟨⟨w.toNat, hw⟩, by simp⟩

/-- An extended real whose absolute value is below plus infinity is finite. -/
theorem finite_of_abs_lt (x : EReal)
    (h : FloatOps.cmpf (F := Ideal) (φ := .f32) .olt (FloatOps.hostAbsf (F := Ideal) (φ := .f32) x)
      (FloatOps.ofBits (F := Ideal) .f32 0x7F800000#32) = 1#1) : x ≠ ⊥ ∧ x ≠ ⊤ := by
  have htop : Ideal.ofBits .f32 0x7F800000#32 = ⊤ := by simp [Ideal.ofBits, Ideal.ieee]
  have hlt : max x (-x) < ⊤ := by
    rw [← htop]
    by_contra hn
    have h0 : BitVec.ofBool (decide (max x (-x) < Ideal.ofBits .f32 0x7F800000#32)) = 1#1 := h
    rw [decide_eq_false hn] at h0
    exact absurd h0 (by decide)
  constructor
  · rintro rfl
    simp at hlt
  · rintro rfl
    simp at hlt

variable [Facts] (f : IVec S1024x26x20 32) (k : IVec S1024x26x20 1) (T : FVec Ideal S18x128 .f32)
  (P : FVec Ideal S20x128 .f32) (W : FVec Ideal S128x128 .f32) (β : FVec Ideal S128 .f32)

/-- Under the precondition's first part the tokens are vocabulary entries. -/
theorem tokens (h : (fn (F := Ideal) f k T P W β).1 = fun _ => 1#1) (b : Fin 1024) (s : Fin 26) (t : Fin 20) :
    ∃ v : Fin 18, f (ix3 b s t) = BitVec.ofNat 32 v :=
  entry_of_range _ (congrFun h (ix3 b s t))

/-- Under its second part the position table is finite. -/
theorem positions (h : (fn (F := Ideal) f k T P W β).2.1 = fun _ => 1#1) (t : Fin 20) (d : Fin 128) :
    (P (ix2 t d) : EReal) ≠ ⊥ ∧ (P (ix2 t d) : EReal) ≠ ⊤ :=
  finite_of_abs_lt _ (congrFun h (ix2 t d))

/-- Under its third part the weights are finite. -/
theorem weights (h : (fn (F := Ideal) f k T P W β).2.2 = fun _ => 1#1) (e d : Fin 128) :
    (W (ix2 e d) : EReal) ≠ ⊥ ∧ (W (ix2 e d) : EReal) ≠ ⊤ :=
  finite_of_abs_lt _ (congrFun h (ix2 e d))

end Cert.Pre_in_vocabulary_and_finite

end
-- ==== Proof.Algebra.lean ====
/-
  The arithmetic of the claim, over extended reals and away from any program.

  One result element is a sum over the 20 plan positions `t` of a row: the reference embeds token and position, applies the
  weights and the bias, and multiplies by the keep bit `k t`; the kernel counts, per vocabulary entry `v`, the kept positions
  that hold `v`, multiplies the counts by the vocabulary's products with the weights, and adds the positions' and bias' part.
-/
module

public import Idealize.ShloMosaic.PureOps.Ideal.Laws

@[expose] public section

noncomputable section

namespace Cert.FleetAlgebra

/-- A finite extended real factor distributes over a sum with one finite summand. -/
theorem add_mul_of_finite (x p w : EReal) (hp : p ≠ ⊥ ∧ p ≠ ⊤) (hw : w ≠ ⊥ ∧ w ≠ ⊤) :
    (x + p) * w = x * w + p * w := by
  lift p to ℝ using ⟨hp.2, hp.1⟩
  lift w to ℝ using ⟨hw.2, hw.1⟩
  induction x with
  | bot =>
    rcases lt_trichotomy w 0 with h | h | h
    · rw [EReal.bot_add, EReal.bot_mul_coe_of_neg h, ← EReal.coe_mul, EReal.top_add_coe]
    · subst h; simp
    · rw [EReal.bot_add, EReal.bot_mul_coe_of_pos h, EReal.bot_add]
  | coe x => rw [← EReal.coe_add, ← EReal.coe_mul, ← EReal.coe_mul, ← EReal.coe_mul, ← EReal.coe_add, add_mul]
  | top =>
    rcases lt_trichotomy w 0 with h | h | h
    · rw [EReal.top_add_coe, EReal.top_mul_coe_of_neg h, EReal.bot_add]
    · subst h; simp
    · rw [EReal.top_add_coe, EReal.top_mul_coe_of_pos h, ← EReal.coe_mul, EReal.top_add_coe]

/-- A sum of nonnegative numbers times any factor is the sum of the products. -/
theorem sum_mul_of_nonneg {ι : Type} (s : Finset ι) (a : ι → EReal) (ha : ∀ i, 0 ≤ a i) (x : EReal) :
    (∑ i ∈ s, a i) * x = ∑ i ∈ s, a i * x := by
  classical
  induction s using Finset.induction_on with
  | empty => simp
  | insert i s hi ih =>
    rw [Finset.sum_insert hi, Finset.sum_insert hi,
      EReal.right_distrib_of_nonneg (ha i) (Finset.sum_nonneg fun j _ => ha j), ih]

/-- The counts' sum: weighting each vocabulary entry's value by the kept positions that hold it is summing, over the kept
    positions, the value of the entry the position holds. -/
theorem counts_sum (tok : Fin 20 → Fin 18) (k : Fin 20 → EReal) (hk : ∀ t, k t = 0 ∨ k t = 1) (x : Fin 18 → EReal) :
    ∑ v, (∑ t, if tok t = v then k t else 0) * x v = ∑ t, k t * x (tok t) := by
  have hn : ∀ v t, (0 : EReal) ≤ if tok t = v then k t else 0 := by
    intro v t
    split
    · rcases hk t with h | h <;> rw [h]
      exact zero_le_one
    · exact le_rfl
  rw [Finset.sum_congr rfl fun v _ => sum_mul_of_nonneg _ _ (hn v) (x v), Finset.sum_comm]
  refine Finset.sum_congr rfl fun t _ => ?_
  simp [ite_mul]

/-- THE EQUATION, one result element: counts times the vocabulary's products with the weights, plus the kept positions'
    products and biases, is the sum over positions of (embedding times weights plus bias) times keep. -/
theorem pooled_eq (tok : Fin 20 → Fin 18) (k : Fin 20 → EReal) (T : Fin 18 → Fin 128 → EReal)
    (P : Fin 20 → Fin 128 → EReal) (W : Fin 128 → EReal) (b : EReal) (hk : ∀ t, k t = 0 ∨ k t = 1)
    (hP : ∀ t d, P t d ≠ ⊥ ∧ P t d ≠ ⊤) (hW : ∀ d, W d ≠ ⊥ ∧ W d ≠ ⊤) :
    ∑ v, (∑ t, if tok t = v then k t else 0) * (∑ d, T v d * W d) + ∑ t, k t * ((∑ d, P t d * W d) + b)
      = ∑ t, ((∑ d, (T (tok t) d + P t d) * W d) + b) * k t := by
  rw [counts_sum tok k hk fun v => ∑ d, T v d * W d, ← Finset.sum_add_distrib]
  refine Finset.sum_congr rfl fun t _ => ?_
  rw [Finset.sum_congr rfl fun d _ => add_mul_of_finite (T (tok t) d) (P t d) (W d) (hP t d) (hW d),
    Finset.sum_add_distrib]
  rcases hk t with h | h <;> rw [h]
  · simp only [zero_mul, mul_zero, add_zero]
  · rw [one_mul, one_mul, mul_one, add_assoc]

end Cert.FleetAlgebra

end
-- ==== Proof.RefTake.lean ====
/-
  The reference's two table look-ups, read at an index: at a row number inside the table each is that row, neither its
  wrap of negative numbers nor its fill of numbers out of range taking part.
-/
module

public import proofs.«01_k».proof.Proof.Gen.ReferenceIdeal.Read
public import Idealize.ShloMosaic.Lib.Pointwise

@[expose] public section

set_option maxRecDepth 16384

noncomputable section

namespace Cert.ReferenceIdeal.Take

open Cert.ReferenceIdeal Cert.ReferenceIdeal.Gen Cert.ReferenceIdeal.Read Idealize.ShloMosaic

/-- A conjunction over an axis of one entry is that entry. -/
theorem fold_and_one (f : Fin 1 → BitVec 1) (h : f 0 = 1#1) :
    (Finset.univ : Finset (Fin 1)).fold IntOp.andi (1#1) f = 1#1 := by
  rw [Finset.univ_unique, Finset.fold_singleton, show (default : Fin 1) = 0 from rfl, h]
  rfl

/-! ## The token table -/

/-- A token of the vocabulary is not wrapped. -/
theorem wrap_tok : ∀ v : Fin 18, Scalar.select (IntOp.cmpi .slt (BitVec.ofNat 32 v) 0#32)
    (IntOp.addi (BitVec.ofNat 32 v) 18#32) (BitVec.ofNat 32 v) = BitVec.ofNat 32 v := by decide

/-- A token of the vocabulary is found in range. -/
theorem inside_tok : ∀ v : Fin 18, IntOp.andi (IntOp.cmpi .sge (BitVec.ofNat 32 v) 0#32)
    (IntOp.cmpi .sle (BitVec.ofNat 32 v) 17#32) = 1#1 := by decide

/-- A row number of the token table survives the gather's clamp. -/
theorem clamp_tok : ∀ v : Fin 18, min (BitVec.ofNat 32 v).toInt.toNat (18 - 1) = v.val := by decide

/-- The gather of the token table reads the row its start index names, when that is a row of the table. -/
theorem gather_tok (x : S18x128.Idx → EReal) (idx : IVec S1024x26x20x1 32) (b : Fin 1024) (s : Fin 26) (t : Fin 20)
    (d : Fin 128) (v : Fin 18) (h : idx (ix4 b s t 0) = BitVec.ofNat 32 v) :
    Host.gather gather_S18x128_S1024x26x20x1_S1024x26x20x128_3_0_n_n_0_3_1128 x idx (ix4 b s t d) = x (ix2 v d) := by
  unfold Host.gather
  congr 1
  funext a
  refine Fin.ext ?_
  show gather_S18x128_S1024x26x20x1_S1024x26x20x128_3_0_n_n_0_3_1128.start (ix4 b s t d) idx a
      + gather_S18x128_S1024x26x20x1_S1024x26x20x128_3_0_n_n_0_3_1128.batchCoord (ix4 b s t d) a
      + gather_S18x128_S1024x26x20x1_S1024x26x20x128_3_0_n_n_0_3_1128.offCoord (ix4 b s t d) a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    have hm : (⟨0, h0⟩ : Fin S18x128.rank) ∈ gather_S18x128_S1024x26x20x1_S1024x26x20x128_3_0_n_n_0_3_1128.startIndexMap :=
      List.mem_singleton.mpr rfl
    unfold GatherDims.start
    rw [dif_pos hm]
    have hsi : gather_S18x128_S1024x26x20x1_S1024x26x20x128_3_0_n_n_0_3_1128.siIdx (ix4 b s t d)
        ⟨_, List.idxOf_lt_length_iff.2 hm⟩ = ix4 b s t 0 := by
      funext c
      refine Fin.ext ?_
      match c with
      | ⟨0, _⟩ => rfl
      | ⟨1, _⟩ => rfl
      | ⟨2, _⟩ => rfl
      | ⟨3, _⟩ => rfl
    rw [hsi, h]
    exact clamp_tok v
  | ⟨1, h1⟩ =>
    have hs : gather_S18x128_S1024x26x20x1_S1024x26x20x128_3_0_n_n_0_3_1128.start (ix4 b s t d) idx ⟨1, h1⟩ = 0 := by
      unfold GatherDims.start
      exact dif_neg (fun h => absurd (congrArg Fin.val (List.mem_singleton.mp h)) Nat.one_ne_zero)
    rw [hs, Nat.add_zero, Nat.zero_add]
    rfl

/-- The reference's token embedding before the positions: the token's row of the table. -/
theorem take_tok (x0 : (⟨S1024x26x20, .i32⟩ : BufTy).Contents (Elt Ideal)) (x2 : (⟨S18x128, .f32⟩ : BufTy).Contents (Elt Ideal))
    (b : Fin 1024) (s : Fin 26) (t : Fin 20) (d : Fin 128) (v : Fin 18) (h : x0 (ix3 b s t) = BitVec.ofNat 32 v) :
    val_main_v0 (F := Ideal) x0 x2 (ix4 b s t d) = x2 (ix2 v d) := by
  have hv5 : val_main_call0_v5 (F := Ideal) x0 (ix4 b s t 0) = BitVec.ofNat 32 v := by
    pointwise [val_main_call0_v5, val_main_call0_v4, val_main_call0_v3, val_main_call0_v2, val_main_call0_v1,
      val_main_call0_v0, val_main_call0_c, val_main_call0_c_0]
    rw [h]
    exact wrap_tok v
  have hin : val_main_call0_v12 (F := Ideal) x0 (ix3 b s t) = 1#1 := by
    pointwise [val_main_call0_v12, val_main_call0_v11, val_main_call0_v10, val_main_call0_v7, val_main_call0_v9,
      val_main_call0_v8, val_main_call0_v6, val_main_call0_c_1, val_main_call0_c_2, val_main_call0_c_3]
    refine fold_and_one _ ?_
    show IntOp.andi (IntOp.cmpi .sge (val_main_call0_v5 (F := Ideal) x0 (ix4 b s t 0)) 0#32)
      (IntOp.cmpi .sle (val_main_call0_v5 (F := Ideal) x0 (ix4 b s t 0)) 17#32) = 1#1
    rw [hv5]
    exact inside_tok v
  pointwise [val_main_v0, val_main_call0_v14, val_main_call0_v13]
  rw [hin]
  exact gather_tok x2 _ b s t d v hv5

/-! ## The position table -/

/-- A position is not wrapped. -/
theorem wrap_pos : ∀ t : Fin 20, Scalar.select (IntOp.cmpi .slt (BitVec.ofNat 32 t) 0#32)
    (IntOp.addi (BitVec.ofNat 32 t) 20#32) (BitVec.ofNat 32 t) = BitVec.ofNat 32 t := by decide

/-- A position is found in range. -/
theorem inside_pos : ∀ t : Fin 20, IntOp.andi (IntOp.cmpi .sge (BitVec.ofNat 32 t) 0#32)
    (IntOp.cmpi .sle (BitVec.ofNat 32 t) 19#32) = 1#1 := by decide

/-- A row number of the position table survives the gather's clamp. -/
theorem clamp_pos : ∀ t : Fin 20, min (BitVec.ofNat 32 t).toInt.toNat (20 - 1) = t.val := by decide

/-- The gather of the position table reads the row its start index names, when that is a row of the table. -/
theorem gather_pos (x : S20x128.Idx → EReal) (idx : IVec S20x1 32) (t : Fin 20) (d : Fin 128) (v : Fin 20)
    (h : idx (ix2 t 0) = BitVec.ofNat 32 v) :
    Host.gather gather_S20x128_S20x1_S20x128_1_0_n_n_0_1_1128 x idx (ix2 t d) = x (ix2 v d) := by
  unfold Host.gather
  congr 1
  funext a
  refine Fin.ext ?_
  show gather_S20x128_S20x1_S20x128_1_0_n_n_0_1_1128.start (ix2 t d) idx a
      + gather_S20x128_S20x1_S20x128_1_0_n_n_0_1_1128.batchCoord (ix2 t d) a
      + gather_S20x128_S20x1_S20x128_1_0_n_n_0_1_1128.offCoord (ix2 t d) a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    have hm : (⟨0, h0⟩ : Fin S20x128.rank) ∈ gather_S20x128_S20x1_S20x128_1_0_n_n_0_1_1128.startIndexMap :=
      List.mem_singleton.mpr rfl
    unfold GatherDims.start
    rw [dif_pos hm]
    have hsi : gather_S20x128_S20x1_S20x128_1_0_n_n_0_1_1128.siIdx (ix2 t d)
        ⟨_, List.idxOf_lt_length_iff.2 hm⟩ = ix2 t 0 := by
      funext c
      refine Fin.ext ?_
      match c with
      | ⟨0, _⟩ => rfl
      | ⟨1, _⟩ => rfl
    rw [hsi, h]
    exact clamp_pos v
  | ⟨1, h1⟩ =>
    have hs : gather_S20x128_S20x1_S20x128_1_0_n_n_0_1_1128.start (ix2 t d) idx ⟨1, h1⟩ = 0 := by
      unfold GatherDims.start
      exact dif_neg (fun h => absurd (congrArg Fin.val (List.mem_singleton.mp h)) Nat.one_ne_zero)
    rw [hs, Nat.add_zero, Nat.zero_add]
    rfl

/-- The reference's position embedding: row `t` of the position table at position `t`. -/
theorem take_pos (x3 : (⟨S20x128, .f32⟩ : BufTy).Contents (Elt Ideal)) (t : Fin 20) (d : Fin 128) :
    val_main_v2 (F := Ideal) x3 (ix2 t d) = x3 (ix2 t d) := by
  have hv5 : val_main_call1_v5 (F := Ideal) (ix2 t 0) = BitVec.ofNat 32 t := by
    pointwise [val_main_call1_v5, val_main_call1_v4, val_main_call1_v3, val_main_call1_v2, val_main_call1_v1,
      val_main_call1_v0, val_main_call1_c, val_main_call1_c_0, val_main_v1]
    exact wrap_pos t
  have hin : val_main_call1_v12 (F := Ideal) (ix1 t) = 1#1 := by
    pointwise [val_main_call1_v12, val_main_call1_v11, val_main_call1_v10, val_main_call1_v7, val_main_call1_v9,
      val_main_call1_v8, val_main_call1_v6, val_main_call1_c_1, val_main_call1_c_2, val_main_call1_c_3]
    refine fold_and_one _ ?_
    show IntOp.andi (IntOp.cmpi .sge (val_main_call1_v5 (F := Ideal) (ix2 t 0)) 0#32)
      (IntOp.cmpi .sle (val_main_call1_v5 (F := Ideal) (ix2 t 0)) 19#32) = 1#1
    rw [hv5]
    exact inside_pos t
  pointwise [val_main_v2, val_main_call1_v14, val_main_call1_v13]
  rw [hin]
  exact gather_pos x3 _ t d t hv5

end Cert.ReferenceIdeal.Take

end
-- ==== Proof.RefValue.lean ====
/-
  What the reference computes, entry by entry: the sum over the fleet slots of the linear layer's value at the sum of the
  slot's token row and position row, times the slot's keep factor.
-/
module

public import proofs.«01_k».proof.Proof.RefTake
public import proofs.«01_k».proof.Proof.KernelArray

@[expose] public section

set_option maxRecDepth 16384

noncomputable section

namespace Cert.ReferenceIdeal.Pooled

open Cert.ReferenceIdeal Cert.ReferenceIdeal.Gen Cert.ReferenceIdeal.Read Cert.ReferenceIdeal.Take Idealize.ShloMosaic
open Cert.KernelIdeal.Block (kept)

/-- One minus the mask bit, read as a number, is the bit's keep factor. -/
theorem keep_sub (w : BitVec 1) :
    FloatOps.sitofp (F := Ideal) FTy.f32 (IntOp.subi 1#32 (BitVec.setWidth 32 w)) = kept w := by
  rcases BitVec.eq_zero_or_eq_one w with rfl | rfl
  · show (((IntOp.subi 1#32 (BitVec.setWidth 32 0#1)).toInt : ℝ) : EReal) = kept 0#1
    rw [show (IntOp.subi 1#32 (BitVec.setWidth 32 0#1)).toInt = 1 by decide]
    simp [kept]
  · show (((IntOp.subi 1#32 (BitVec.setWidth 32 1#1)).toInt : ℝ) : EReal) = kept 1#1
    rw [show (IntOp.subi 1#32 (BitVec.setWidth 32 1#1)).toInt = 0 by decide]
    simp [kept]

/-- The reference's result at batch row `b`, slot `s`, column `e`, when the slot's tokens are the vocabulary entries
    `tok`: the sum over positions of the linear layer at the summed rows, times the keep factor. -/
theorem value (x0 : (⟨S1024x26x20, .i32⟩ : BufTy).Contents (Elt Ideal))
    (x1 : (⟨S1024x26x20, .i1⟩ : BufTy).Contents (Elt Ideal)) (x2 : (⟨S18x128, .f32⟩ : BufTy).Contents (Elt Ideal))
    (x3 : (⟨S20x128, .f32⟩ : BufTy).Contents (Elt Ideal)) (x4 : (⟨S128x128, .f32⟩ : BufTy).Contents (Elt Ideal))
    (x5 : (⟨S128, .f32⟩ : BufTy).Contents (Elt Ideal)) (b : Fin 1024) (s : Fin 26) (e : Fin 128) (tok : Fin 20 → Fin 18)
    (h : ∀ t, x0 (ix3 b s t) = BitVec.ofNat 32 (tok t)) :
    val_main_v17 (F := Ideal) x0 x1 x2 x3 x4 x5 (ix3 b s e)
      = ∑ t : Fin 20, ((∑ d : Fin 128, ((x2 (ix2 (tok t) d) : EReal) + x3 (ix2 t d)) * x4 (ix2 e d)) + x5 (ix1 e))
          * kept (x1 (ix3 b s t)) := by
  pointwise [val_main_v17, val_main_v16, val_main_v15, val_main_v14, val_main_v13, val_main_v12, val_main_v11,
    val_main_v10, val_main_v9, val_main_v8, val_main_v7, val_main_v6, val_main_v5, val_main_v4, val_main_v3,
    val_main_cst, val_main_c]
  refine Finset.sum_congr rfl fun t _ => ?_
  rw [keep_sub]
  refine congrArg (fun z : EReal => (z + x5 (ix1 e)) * kept (x1 (ix3 b s t))) ?_
  refine Finset.sum_congr rfl fun d _ => ?_
  rw [take_tok x0 x2 b s t d (tok t) (h t), take_pos]

end Cert.ReferenceIdeal.Pooled

end
-- ==== Proof.Equation.lean ====
/-
  The equation: under the precondition the kernel's pooled value and the reference's value are one number at every index.
-/
module

public import proofs.«01_k».proof.Proof.Algebra
public import proofs.«01_k».proof.Proof.RefValue
public import proofs.«01_k».proof.Proof.Precondition

@[expose] public section

noncomputable section

namespace Cert.Equation

open Idealize.ShloMosaic Cert.KernelIdeal Cert.KernelIdeal.Block

/-- A keep factor is zero or one. -/
theorem kept_cases (w : BitVec 1) : kept w = 0 ∨ kept w = 1 := by
  rcases BitVec.eq_zero_or_eq_one w with rfl | rfl
  · exact Or.inr rfl
  · exact Or.inl rfl

/-- Two vocabulary entries with one word are one entry. -/
theorem entry_inj : ∀ u v : Fin 18, BitVec.ofNat 32 u = BitVec.ofNat 32 v ↔ u = v := by decide

variable (f : Vec Ideal S1024x26x20 .i32) (k : Vec Ideal S1024x26x20 .i1) (T : Vec Ideal S18x128 .f32)
  (P : Vec Ideal S20x128 .f32) (W : Vec Ideal S128x128 .f32) (β : Vec Ideal S128 .f32)

/-- With tokens of the vocabulary and finite positions and weights, the kernel's array is the reference's. -/
theorem arrays_eq (hf : ∀ b s t, ∃ v : Fin 18, f (ix3 b s t) = BitVec.ofNat 32 v)
    (hP : ∀ t d, (P (ix2 t d) : EReal) ≠ ⊥ ∧ (P (ix2 t d) : EReal) ≠ ⊤)
    (hW : ∀ e d, (W (ix2 e d) : EReal) ≠ ⊥ ∧ (W (ix2 e d) : EReal) ≠ ⊤) :
    (fun i : S1024x26x128.Idx => pooled f k T P W β (i 0) (i 1) (i 2))
      = Cert.ReferenceIdeal.Read.val_main_v17 (F := Ideal) f k T P W β := by
  funext i
  obtain ⟨b, s, e, rfl⟩ : ∃ b s e, i = ix3 b s e := ⟨i 0, i 1, i 2, by blk_ext⟩
  choose tok htok using hf b s
  rw [Cert.ReferenceIdeal.Pooled.value f k T P W β b s e tok htok,
    ← Cert.FleetAlgebra.pooled_eq tok (fun t => kept (k (ix3 b s t))) (fun v d => T (ix2 v d)) (fun t d => P (ix2 t d))
      (fun d => W (ix2 e d)) (β (ix1 e)) (fun t => kept_cases _) hP (hW e)]
  show pooled f k T P W β b s e = _
  unfold pooled
  simp only [htok, entry_inj]

end Cert.Equation

end
-- ==== Proof.lean ====
/-
  The certificate: the two frames of the kernel, the frame of the reference, and the equation of their results under the
  precondition, assembled from what the kernel's array holds, what the reference computes, and the algebra between them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelArray
public import proofs.«01_k».proof.Proof.Precondition
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs to its end, leaves its arguments unchanged and every semaphore at zero. -/
theorem kernel_frame : quiescent_Kernel (hKernel := Cert.Kernel.Gen.facts) :=
  fun m ρ _ => Cert.Kernel.Gen.frame m ρ

/-- So does its reading over the extended reals. -/
theorem ideal_frame : quiescent_KernelIdeal (hKernelIdeal := Cert.KernelIdeal.Gen.facts) :=
  fun m ρ _ => Cert.KernelIdeal.Gen.frame m ρ

/-- The reference runs to its end, leaves its arguments unchanged and every semaphore at zero. -/
theorem reference_frame : quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Under the precondition, from memories agreeing on the arguments, the kernel and the reference end with the same result. -/
theorem values : algebraic_KernelIdeal_ReferenceIdeal_pre_in_vocabulary_and_finite
    (hKernelIdeal := Cert.KernelIdeal.Gen.facts) (hReferenceIdeal := Cert.ReferenceIdeal.Gen.facts)
    (hPre_in_vocabulary_and_finite := Cert.Pre_in_vocabulary_and_finite.facts) := by
  letI := Cert.Pre_in_vocabulary_and_finite.facts
  intro m ρ m' ρ' hpre hargs
  refine ⟨fun c => (Cert.KernelIdeal.Gen.dats m 0 c).arrAt 6 Cert.KernelIdeal.cfg0.N,
    Cert.KernelIdeal.Value.run_blocks m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5⟩ := hargs c
  obtain ⟨hf, hP, hW⟩ := hpre c
  rw [Cert.ReferenceIdeal.Read.val_main_v17_eq, h0, h1, h2, h3, h4, h5]
  exact ((Cert.KernelIdeal.Block.final m c).trans (Cert.Equation.arrays_eq _ _ _ _ _ _ (Cert.Pre_in_vocabulary_and_finite.tokens _ _ _ _ _ _ hf)
    (Cert.Pre_in_vocabulary_and_finite.positions _ _ _ _ _ _ hP)
    (Cert.Pre_in_vocabulary_and_finite.weights _ _ _ _ _ _ hW))).symm

/-- All the certificate claims. -/
theorem claim : Cert.Claim :=
  ⟨Cert.Kernel.Gen.facts, Cert.KernelIdeal.Gen.facts, Cert.ReferenceIdeal.Gen.facts,
    Cert.Pre_in_vocabulary_and_finite.facts, kernel_frame, ideal_frame, fun m ρ _ => ideal_frame m ρ trivial,
    reference_frame, fun m ρ _ => reference_frame m ρ trivial, trivial, values⟩

end Cert.Proof

end
